-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_state [hPre_finite_state : Cert.Pre_finite_state.Facts] (m : (ℓ : Loc Cert.KernelIdeal.nD Cert.KernelIdeal.τ Cert.KernelIdeal.sig) → Buf (Elt Ideal) ℓ) : Prop :=
  ∀ c : Dev Cert.KernelIdeal.nD,
    (Cert.Pre_finite_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_state [hPre_finite_state : Cert.Pre_finite_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_state [hKernelIdeal : Cert.KernelIdeal.Facts] [hPre_finite_state : Cert.Pre_finite_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_state [hReferenceIdeal : Cert.ReferenceIdeal.Facts] [hPre_finite_state : Cert.Pre_finite_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_state [hKernelIdeal : Cert.KernelIdeal.Facts] [hReferenceIdeal : Cert.ReferenceIdeal.Facts] [hPre_finite_state : Cert.Pre_finite_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_state : Cert.Pre_finite_state.Facts),
    quiescent_Kernel (hKernel := hKernel)
    ∧ quiescent_KernelIdeal (hKernelIdeal := hKernelIdeal)
    ∧ quiescent_KernelIdeal_pre_finite_state (hKernelIdeal := hKernelIdeal) (hPre_finite_state := hPre_finite_state)
    ∧ quiescent_ReferenceIdeal (hReferenceIdeal := hReferenceIdeal)
    ∧ quiescent_ReferenceIdeal_pre_finite_state (hReferenceIdeal := hReferenceIdeal) (hPre_finite_state := hPre_finite_state)
    ∧ preserves_Kernel_KernelIdeal
    ∧ algebraic_KernelIdeal_ReferenceIdeal_pre_finite_state (hKernelIdeal := hKernelIdeal) (hReferenceIdeal := hReferenceIdeal) (hPre_finite_state := hPre_finite_state)
-- ==== Pre_finite_state.lean ====
abbrev S65536x96 : Shape := ⟨2, ![65536, 96]⟩
abbrev S65536x32 : Shape := ⟨2, ![65536, 32]⟩
abbrev S128 : Shape := ⟨1, ![128]⟩
abbrev S384x96 : Shape := ⟨2, ![384, 96]⟩
abbrev S384x128 : Shape := ⟨2, ![384, 128]⟩
abbrev S384 : Shape := ⟨1, ![384]⟩
abbrev S1 : Shape := ⟨1, ![1]⟩
abbrev S128x128 : Shape := ⟨2, ![128, 128]⟩
abbrev S_ : Shape := ⟨0, ![]⟩

class Facts : Prop where
  slices_S384x128_S128x128_256_0 : S384x128.Slices ![256, 0] S128x128
  bcast_S_S128 : S_.BroadcastsInDim S128 (![] : Fin 0 → Fin S128.rank)
  bcast_S_S128x128 : S_.BroadcastsInDim S128x128 (![] : Fin 0 → Fin S128x128.rank)

variable [Facts]

def fn {F : FTy → Type} [FloatOps F] (main_arg0 : FVec F S65536x96 .f32) (main_arg1 : FVec F S65536x32 .f32) (main_arg2 : FVec F S128 .f32) (main_arg3 : FVec F S384x96 .f32) (main_arg4 : FVec F S384x128 .f32) (main_arg5 : FVec F S384 .f32) (main_arg6 : FVec F S128 .f32) (main_arg7 : FVec F S1 .f32) : IVec S128 1 × IVec S128x128 1 × IVec S128 1 :=
  let main_v0 : FVec F S128x128 .f32 := (extractStridedSlice S128x128 ![256, 0] · slices_S384x128_S128x128_256_0) main_arg4
  let main_v1 : FVec F S128 .f32 := Host.absf main_arg2
  let main_cst : FVec F S_ .f32 := constant S_ .f32 0x7F800000#32
  let main_v2 : FVec F S128 .f32 := broadcastInDim S128 ![] bcast_S_S128 main_cst
  let main_v3 : IVec S128 1 := cmpf .olt main_v1 main_v2
  let main_v4 : FVec F S128x128 .f32 := Host.absf main_v0
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_v7 : FVec F S128 .f32 := Host.absf main_arg6
  let main_cst_1 : FVec F S_ .f32 := constant S_ .f32 0x7F800000#32
  let main_v8 : FVec F S128 .f32 := broadcastInDim S128 ![] bcast_S_S128 main_cst_1
  let main_v9 : IVec S128 1 := cmpf .olt main_v7 main_v8
  (main_v3, main_v6, main_v9)
-- ==== Kernel.lean ====
abbrev S65536x96 : Shape := ⟨2, ![65536, 96]⟩
abbrev S65536x32 : Shape := ⟨2, ![65536, 32]⟩
abbrev S128 : Shape := ⟨1, ![128]⟩
abbrev S384x96 : Shape := ⟨2, ![384, 96]⟩
abbrev S384x128 : Shape := ⟨2, ![384, 128]⟩
abbrev S384 : Shape := ⟨1, ![384]⟩
abbrev S1 : Shape := ⟨1, ![1]⟩
abbrev S_ : Shape := ⟨0, ![]⟩
abbrev S256 : Shape := ⟨1, ![256]⟩
abbrev S96x384 : Shape := ⟨2, ![96, 384]⟩
abbrev S1x384 : Shape := ⟨2, ![1, 384]⟩
abbrev S128x384 : Shape := ⟨2, ![128, 384]⟩
abbrev S1x128 : Shape := ⟨2, ![1, 128]⟩
abbrev S1x1 : Shape := ⟨2, ![1, 1]⟩
abbrev S65536x1 : Shape := ⟨2, ![65536, 1]⟩
abbrev S2048x96 : Shape := ⟨2, ![2048, 96]⟩
abbrev S2048x32 : Shape := ⟨2, ![2048, 32]⟩
abbrev S2048x1 : Shape := ⟨2, ![2048, 1]⟩
abbrev S2048x384 : Shape := ⟨2, ![2048, 384]⟩
abbrev S2048x128 : Shape := ⟨2, ![2048, 128]⟩
abbrev S2048 : Shape := ⟨1, ![2048]⟩

abbrev nBuf : Space → Nat
  | .hbm => 30
  | .vmem => 15
  | .smem => 0
  | _ => 0

abbrev bufTy : (tb : Table) → Fin (tcTables nBuf tb) → BufTy
  | .hbm, ⟨0, _⟩ => ⟨S65536x96, .f32⟩
  | .hbm, ⟨1, _⟩ => ⟨S65536x32, .f32⟩
  | .hbm, ⟨2, _⟩ => ⟨S128, .f32⟩
  | .hbm, ⟨3, _⟩ => ⟨S384x96, .f32⟩
  | .hbm, ⟨4, _⟩ => ⟨S384x128, .f32⟩
  | .hbm, ⟨5, _⟩ => ⟨S384, .f32⟩
  | .hbm, ⟨6, _⟩ => ⟨S128, .f32⟩
  | .hbm, ⟨7, _⟩ => ⟨S1, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S128, .f32⟩
  | .hbm, ⟨12, _⟩ => ⟨S384, .f32⟩
  | .hbm, ⟨13, _⟩ => ⟨S96x384, .f32⟩
  | .hbm, ⟨14, _⟩ => ⟨S1x384, .f32⟩
  | .hbm, ⟨15, _⟩ => ⟨S96x384, .f32⟩
  | .hbm, ⟨16, _⟩ => ⟨S96x384, .f32⟩
  | .hbm, ⟨17, _⟩ => ⟨S128x384, .f32⟩
  | .hbm, ⟨18, _⟩ => ⟨S_, .f32⟩
  | .hbm, ⟨19, _⟩ => ⟨S128x384, .f32⟩
  | .hbm, ⟨20, _⟩ => ⟨S128x384, .f32⟩
  | .hbm, ⟨21, _⟩ => ⟨S384, .f32⟩
  | .hbm, ⟨22, _⟩ => ⟨S1x384, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S1x1, .f32⟩
  | .hbm, ⟨29, _⟩ => ⟨S65536x1, .f32⟩
  | .local _ .vmem, ⟨0, _⟩ => ⟨S2048x96, .f32⟩
  | .local _ .vmem, ⟨1, _⟩ => ⟨S2048x96, .f32⟩
  | .local _ .vmem, ⟨2, _⟩ => ⟨S2048x32, .f32⟩
  | .local _ .vmem, ⟨3, _⟩ => ⟨S2048x32, .f32⟩
  | .local _ .vmem, ⟨4, _⟩ => ⟨S96x384, .f32⟩
  | .local _ .vmem, ⟨5, _⟩ => ⟨S128x384, .f32⟩
  | .local _ .vmem, ⟨6, _⟩ => ⟨S1x384, .f32⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | .local _ .vmem, ⟨12, _⟩ => ⟨S2048x384, .f32⟩
  | .local _ .vmem, ⟨13, _⟩ => ⟨S2048x128, .f32⟩
  | .local _ .vmem, ⟨14, _⟩ => ⟨S1x128, .f32⟩
  | _, _ => ⟨S65536x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_14 : BitVec 32 := 0#32
  let c2048_i32 : BitVec 32 := 2048#32
  let v19 : BitVec 32 := Scalar.addi c0_i32_14 c2048_i32
  let c1_i32 : BitVec 32 := 1#32
  ⟨c0_i32_14, v19, c1_i32⟩
def k0_off1 (k0_t1 : Fin k0_t1_loop.trips) : Fin 2 → Nat :=
  let c0_i32_14 : BitVec 32 := 0#32
  let c1_i32 : BitVec 32 := 1#32
  let arg13 : BitVec 32 := Scf.iv c0_i32_14 c1_i32 k0_t1
  let v34 : Index := Scalar.indexCast arg13
  let c0_27 : Index := 0#32
  ![v34.toNat, 0]
def k0_off2 (k0_t1 : Fin k0_t1_loop.trips) : Fin 2 → Nat :=
  let c0_i32_14 : BitVec 32 := 0#32
  let c1_i32 : BitVec 32 := 1#32
  let arg13 : BitVec 32 := Scf.iv c0_i32_14 c1_i32 k0_t1
  let v63 : Index := Scalar.indexCast arg13
  let c0_33 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S65536x96 : Shape := ⟨2, ![65536, 96]⟩
abbrev S65536x32 : Shape := ⟨2, ![65536, 32]⟩
abbrev S128 : Shape := ⟨1, ![128]⟩
abbrev S384x96 : Shape := ⟨2, ![384, 96]⟩
abbrev S384x128 : Shape := ⟨2, ![384, 128]⟩
abbrev S384 : Shape := ⟨1, ![384]⟩
abbrev S1 : Shape := ⟨1, ![1]⟩
abbrev S96x384 : Shape := ⟨2, ![96, 384]⟩
abbrev S65536x384 : Shape := ⟨2, ![65536, 384]⟩
abbrev S1x384 : Shape := ⟨2, ![1, 384]⟩
abbrev S_ : Shape := ⟨0, ![]⟩
abbrev S65536x1 : Shape := ⟨2, ![65536, 1]⟩
abbrev S1x32 : Shape := ⟨2, ![1, 32]⟩
abbrev S32 : Shape := ⟨1, ![32]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S65536x96, .f32⟩
  | .hbm, ⟨1, _⟩ => ⟨S65536x32, .f32⟩
  | .hbm, ⟨2, _⟩ => ⟨S128, .f32⟩
  | .hbm, ⟨3, _⟩ => ⟨S384x96, .f32⟩
  | .hbm, ⟨4, _⟩ => ⟨S384x128, .f32⟩
  | .hbm, ⟨5, _⟩ => ⟨S384, .f32⟩
  | .hbm, ⟨6, _⟩ => ⟨S128, .f32⟩
  | .hbm, ⟨7, _⟩ => ⟨S1, .f32⟩
  | .hbm, ⟨8, _⟩ => ⟨S96x384, .f32⟩
  | .hbm, ⟨9, _⟩ => ⟨S65536x384, .f32⟩
  | .hbm, ⟨10, _⟩ => ⟨S1x384, .f32⟩
  | .hbm, ⟨11, _⟩ => ⟨S65536x384, .f32⟩
  | .hbm, ⟨12, _⟩ => ⟨S65536x384, .f32⟩
  | .hbm, ⟨13, _⟩ => ⟨S_, .f32⟩
  | .hbm, ⟨14, _⟩ => ⟨S65536x1, .f32⟩
  | .hbm, ⟨15, _⟩ => ⟨S_, .i32⟩
  | .hbm, ⟨16, _⟩ => ⟨S65536x384, .f32⟩
  | .hbm, ⟨17, _⟩ => ⟨S65536x32, .f32⟩
  | .hbm, ⟨18, _⟩ => ⟨S384x128, .f32⟩
  | .hbm, ⟨19, _⟩ => ⟨S128, .f32⟩
  | .hbm, ⟨20, _⟩ => ⟨S1, .f32⟩
  | .hbm, ⟨21, _⟩ => ⟨S_, .i32⟩
  | .hbm, ⟨22, _⟩ => ⟨S128, .f32⟩
  | .hbm, ⟨23, _⟩ => ⟨S65536x1, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S1x384, .f32⟩
  | .hbm, ⟨28, _⟩ => ⟨S384, .f32⟩
  | .hbm, ⟨29, _⟩ => ⟨S_, .i32⟩
  | .hbm, ⟨30, _⟩ => ⟨S1x32, .f32⟩
  | .hbm, ⟨31, _⟩ => ⟨S32, .f32⟩
  | .hbm, ⟨32, _⟩ => ⟨S384, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S32, .f32⟩
  | .hbm, ⟨65, _⟩ => ⟨S1x32, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S_, .i32⟩
  | .hbm, ⟨70, _⟩ => ⟨S65536x1, .f32⟩
  | .hbm, ⟨71, _⟩ => ⟨S_, .i32⟩
  | .hbm, ⟨72, _⟩ => ⟨S_, .i32⟩
  | _, _ => ⟨S65536x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_while0c_c_7 : Ref sig .tc := ⟨.hbm, 24, rfl⟩
abbrev main_while0c_v7 : Ref sig .tc := ⟨.hbm, 25, rfl⟩
abbrev main_while0b_call0_c : Ref sig .tc := ⟨.hbm, 26, rfl⟩
abbrev main_while0b_call0_v0 : Ref sig .tc := ⟨.hbm, 27, rfl⟩
abbrev main_while0b_v7 : Ref sig .tc := ⟨.hbm, 28, rfl⟩
abbrev main_while0b_call1_c : Ref sig .tc := ⟨.hbm, 29, rfl⟩
abbrev main_while0b_call1_v0 : Ref sig .tc := ⟨.hbm, 30, rfl⟩
abbrev main_while0b_v8 : Ref sig .tc := ⟨.hbm, 31, rfl⟩
abbrev main_while0b_v9 : Ref sig .tc := ⟨.hbm, 32, rfl⟩
abbrev main_while0b_v10 : Ref sig .tc := ⟨.hbm, 33, rfl⟩
abbrev main_while0b_v11 : Ref sig .tc := ⟨.hbm, 34, rfl⟩
abbrev main_while0b_v12 : Ref sig .tc := ⟨.hbm, 35, rfl⟩
abbrev main_while0b_v13 : Ref sig .tc := ⟨.hbm, 36, rfl⟩
abbrev main_while0b_v14 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_cst_7 : Ref sig .tc := ⟨.hbm, 42, rfl⟩
abbrev main_while0b_v19 : Ref sig .tc := ⟨.hbm, 43, rfl⟩
abbrev main_while0b_v20 : Ref sig .tc := ⟨.hbm, 44, rfl⟩
abbrev main_while0b_cst_8 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_cst_9 : Ref sig .tc := ⟨.hbm, 51, rfl⟩
abbrev main_while0b_v26 : Ref sig .tc := ⟨.hbm, 52, rfl⟩
abbrev main_while0b_v27 : Ref sig .tc := ⟨.hbm, 53, rfl⟩
abbrev main_while0b_cst_10 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_v32 : Ref sig .tc := ⟨.hbm, 59, rfl⟩
abbrev main_while0b_v33 : Ref sig .tc := ⟨.hbm, 60, rfl⟩
abbrev main_while0b_v34 : Ref sig .tc := ⟨.hbm, 61, rfl⟩
abbrev main_while0b_v35 : Ref sig .tc := ⟨.hbm, 62, rfl⟩
abbrev main_while0b_v36 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_call2_v0 : Ref sig .tc := ⟨.hbm, 68, rfl⟩
abbrev main_while0b_call2_c : Ref sig .tc := ⟨.hbm, 69, rfl⟩
abbrev main_while0b_v41 : Ref sig .tc := ⟨.hbm, 70, rfl⟩
abbrev main_while0b_c_11 : Ref sig .tc := ⟨.hbm, 71, rfl⟩
abbrev main_while0b_v42 : Ref sig .tc := ⟨.hbm, 72, rfl⟩

abbrev nD : Nat := 1
abbrev τ : Topo := Topo.v7x

variable {F : FTy → Type} [FloatOps F]

abbrev main_while0_count : Scf.Loop 32 := ⟨0#32, 65536#32, 1#32⟩
-- ==== Proof.Body.lean ====
module

public import proofs.«01_k».proof.Proof.Gen.KernelIdeal.Frame
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of a block of input gates, as a block of one row (rows are counted modulo the block's 2048). -/
def gateRow (X : Vec F S2048x384 .f32) (k : ℕ) : Vec F S1x384 .f32 :=
  fun y => X (ix2 ⟨k % 2048, Nat.mod_lt _ (by norm_num)⟩ (y 1))

/-- The hidden state after `k` steps of a chunk. -/
def hid (W : Vec F S128x384 .f32) (b : Vec F S1x128 .f32) (X : Vec F S2048x384 .f32) (h : Vec F S1x128 .f32) :
    ℕ → Vec F S1x128 .f32
  | 0 => h
  | k + 1 => k0_pay4 W b (hid W b X h k) (gateRow X k)

/-- The hidden states of a chunk, one per row: row `t` is the state after step `t + 1`. -/
def rows (W : Vec F S128x384 .f32) (b : Vec F S1x128 .f32) (X : Vec F S2048x384 .f32) (h : Vec F S1x128 .f32) :
    Vec F S2048x128 .f32 := fun y => hid W b X h ((y 0).val + 1) (ix2 (0 : Fin 1) (y 1))

variable (c : Dev nD) (i : grid0.Coords)
  (arg1 : Memref sig .tc .vmem S2048x96 .f32) (harg1 : arg1.IsWhole) (arg2 : Memref sig .tc .vmem S2048x32 .f32) (harg2 : arg2.IsWhole) (arg3 : Memref sig .tc .vmem S96x384 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x384 .f32) (harg10 : arg10.IsWhole) (arg11 : Memref sig .tc .vmem S2048x128 .f32) (harg11 : arg11.IsWhole) (arg12 : Memref sig .tc .vmem S1x128 .f32) (harg12 : arg12.IsWhole)

/-- The first 32 lanes of every row. -/
def lead (Y : Vec F S2048x128 .f32) : Vec F S2048x32 .f32 :=
  fun y => Y (ix2 (y 0) ⟨(y 1).val, Nat.lt_of_lt_of_le (y 1).isLt (by decide)⟩)

/-- A load of the leading 32 columns reads the first 32 lanes of every row. -/
theorem lead_read {sp : Space} (v : View sig .tc sp S2048x128 .f32) (X : v.ty.Contents (Elt F)) :
    v.readAt (Elt F) (Rect.unit (s := S2048x128) ![0, 0] S2048x32.size inb_S2048x128_S2048x32_0_0).toLoadRect X
      = lead (v.read (Elt F) X) := by
  funext y
  refine congrArg (v.read (Elt F) X) (funext fun a => Fin.ext ?_)
  match a with
  | ⟨0, _⟩ => show 0 + 1 * (y 0).val = (y 0).val; omega
  | ⟨1, _⟩ => show 0 + 1 * (y 1).val = (y 1).val; omega

/-- A load of one row of the gates reads that row. -/
theorem gateRow_read {sp : Space} (v : View sig .tc sp S2048x384 .f32) (X : v.ty.Contents (Elt F)) (k : Fin k0_t1_loop.trips) :
    v.readAt (Elt F) (Rect.unit (s := S2048x384) (k0_off1 k) ![1, 384] (k0_off1_inb k)).toLoadRect X
      = gateRow (v.read (Elt F) X) k.val := by
  have hk : k.val < 2048 := Nat.lt_of_lt_of_le k.isLt k0_t1_abs.2.1
  funext y
  have h0 : (y 0).val < 1 := (y 0).isLt
  refine congrArg (v.read (Elt F) X) (funext fun a => Fin.ext ?_)
  have e0 : k0_off1 k 0 = k.val := congrFun (k0_off1_eq k) 0
  have e1 : k0_off1 k 1 = 0 := congrFun (k0_off1_eq k) 1
  match a with
  | ⟨0, _⟩ => show k0_off1 k 0 + 1 * (y 0).val = k.val % 2048; omega
  | ⟨1, _⟩ => show k0_off1 k 1 + 1 * (y 1).val = (y 1).val; omega

section Trip
variable (W : Vec F S128x384 .f32) (b : Vec F S1x128 .f32) (X : BufTy.Contents (Elt F) arg10.view.ty)

/-- What a trip of the loop carries on: the next hidden state, from the row of gates that it loads. -/
theorem tripR_eq (k : Fin k0_t1_loop.trips) (acc : Vec F S1x128 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 W b X k acc
      = k0_pay4 W b acc (gateRow (arg10.view.read (Elt F) X) k.val) := by
  unfold tripR_k0_t1 trip_k0_t1
  dsimp only
  rw [gateRow_read]

/-- What a trip of the loop stores: the next hidden state, as one row. -/
theorem tripL_eq (k : Fin k0_t1_loop.trips) (acc : Vec F S1x128 .f32) :
    tripL_k0_t1 (F := F) Variants.none c none i arg1 harg1 arg2 harg2 arg3 harg3 arg4 harg4 arg5 harg5 arg6 harg6 arg7 harg7 arg8 harg8 arg9 harg9 arg10 harg10 arg11 harg11 arg12 harg12 W b X k acc
      = [⟨Rect.unit (s := S2048x128) (k0_off2 k) S1x128.size (k0_off2_inb k), k0_pay5 W b acc (gateRow (arg10.view.read (Elt F) X) k.val)⟩] := by
  unfold tripL_k0_t1 trip_k0_t1
  dsimp only
  rw [gateRow_read]

/-- The loop runs 2048 trips. -/
theorem trips_eq : Scf.trips k0_t1_loop.lb k0_t1_loop.ub k0_t1_loop.st = 2048 := by decide +kernel

/-- The loop's state before trip `k`: the carried value is the hidden state after `k` steps, and the pieces stored so
    far leave the first `k` rows at the hidden states after steps `1, …, k`. -/
theorem state_eq (init : Vec F S1x128 .f32) (k : ℕ) (hk : k ≤ 2048) :
    (st_k0_t1 (F := F) Variants.none c none i arg1 harg1 arg2 harg2 arg3 harg3 arg4 harg4 arg5 harg5 arg6 harg6 arg7 harg7 arg8 harg8 arg9 harg9 arg10 harg10 arg11 harg11 arg12 harg12 W b X init k).1
        = hid W b (arg10.view.read (Elt F) X) init k
    ∧ ∀ (G : BufTy.Contents (Elt F) arg11.view.ty) (y : S2048x128.Idx), (y 0).val < k →
      arg11.view.read (Elt F) (arg11.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 W b X init k).2) y
        = rows W b (arg10.view.read (Elt F) X) init y := by
  induction k with
  | zero => exact ⟨rfl, fun _ _ h => absurd h (Nat.not_lt_zero _)⟩
  | succ k ih =>
    obtain ⟨ih1, ih2⟩ := ih (Nat.le_of_succ_le hk)
    have hT : k < k0_t1_loop.trips := Nat.lt_of_lt_of_eq hk trips_eq.symm
    have e := st_k0_t1_succ (F := F) Variants.none c none i arg1 harg1 arg2 harg2 arg3 harg3 arg4 harg4 arg5 harg5 arg6 harg6 arg7 harg7 arg8 harg8 arg9 harg9 arg10 harg10 arg11 harg11 arg12 harg12 W b X init ⟨k, hT⟩
    rw [tripR_eq, tripL_eq, ih1] at e
    rw [e]
    refine ⟨rfl, fun G y hy => ?_⟩
    dsimp only [List.singleton_append]
    rcases Nat.lt_succ_iff_lt_or_eq.mp hy with h | h
    · exact (View.read_writes_cons_rows_of_not_mem (d := ![2048, 128]) arg11.view G (o := k) (W := 1) _ _ _ y
        (k0_off2_eq ⟨k, hT⟩) rfl (Or.inl h)).trans (ih2 G y h)
    · refine (View.read_writes_cons_rows_of_mem (d := ![2048, 128]) arg11.view G (o := k) _ _ _ y
        (ix2 (0 : Fin 1) (y 1)) (k0_off2_eq ⟨k, hT⟩) (by simpa using h) rfl).trans ?_
      unfold rows k0_pay5
      rw [shapeCast_id, h]
      rfl

/-- After the loop the carried value is the hidden state after all 2048 steps. -/
theorem yield_eq (init : Vec F S1x128 .f32) :
    (st_k0_t1 (F := F) Variants.none c none i arg1 harg1 arg2 harg2 arg3 harg3 arg4 harg4 arg5 harg5 arg6 harg6 arg7 harg7 arg8 harg8 arg9 harg9 arg10 harg10 arg11 harg11 arg12 harg12 W b X init (Scf.trips k0_t1_loop.lb k0_t1_loop.ub k0_t1_loop.st)).1
      = hid W b (arg10.view.read (Elt F) X) init 2048 := by
  rw [trips_eq]
  exact (state_eq c i arg1 harg1 arg2 harg2 arg3 harg3 arg4 harg4 arg5 harg5 arg6 harg6 arg7 harg7 arg8 harg8 arg9 harg9 arg10 harg10 arg11 harg11 arg12 harg12 W b X init 2048 le_rfl).1

/-- After the loop the first 32 lanes of the stored rows are those of the hidden states. -/
theorem stored_eq (init : Vec F S1x128 .f32) (G : BufTy.Contents (Elt F) arg11.view.ty) :
    arg11.view.readAt (Elt F) (Rect.unit (s := S2048x128) ![0, 0] S2048x32.size inb_S2048x128_S2048x32_0_0).toLoadRect
      (arg11.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 W b X init (Scf.trips k0_t1_loop.lb k0_t1_loop.ub k0_t1_loop.st)).2)
      = lead (rows W b (arg10.view.read (Elt F) X) init) := by
  rw [trips_eq, lead_read]
  have e : arg11.view.read (Elt F) (arg11.view.writes (Elt F) G (st_k0_t1 (F := F) Variants.none c none i arg1 harg1 arg2 harg2 arg3 harg3 arg4 harg4 arg5 harg5 arg6 harg6 arg7 harg7 arg8 harg8 arg9 harg9 arg10 harg10 arg11 harg11 arg12 harg12 W b X init 2048).2)
      = rows W b (arg10.view.read (Elt F) X) init := funext fun y =>
    (state_eq c i arg1 harg1 arg2 harg2 arg3 harg3 arg4 harg4 arg5 harg5 arg6 harg6 arg7 harg7 arg8 harg8 arg9 harg9 arg10 harg10 arg11 harg11 arg12 harg12 W b X init 2048 le_rfl).2 G y (y 0).isLt
  rw [e]
end Trip
/-- The condition under which a point starts from the first hidden state: it is the first of the grid. -/
abbrev cond (i : grid0.Coords) : Prop := (Scalar.cmpi .ne (Scalar.extui (Scalar.cmpi .eq (BitVec.ofNat 32 (i 0).val) 0#32)) 0#32) = 1#1

/-- The hidden state a point starts from: at the first point the one handed to the kernel, at the others the carried one. -/
def start (i : grid0.Coords) (h0 hc : Vec F S1x128 .f32) : Vec F S1x128 .f32 := if cond i then h0 else hc

/-- What a point leaves in its output block. -/
def outBlock (W : Vec F S128x384 .f32) (b : Vec F S1x128 .f32) (X : Vec F S2048x384 .f32) (h : Vec F S1x128 .f32)
    (xl : Vec F S2048x32 .f32) (lb : Vec F S1x1 .f32) : Vec F S2048x1 .f32 :=
  k0_pay1 (k0_pay7 (lead (rows W b X h)) xl) lb

/-- The first hidden state is stored as it is handed over. -/
theorem pay2_eq (v : Vec F S1x128 .f32) : k0_pay2 v = v := by
  unfold k0_pay2
  exact (shapeCast_id _ _).trans (shapeCast_id _ _)

/-- The last hidden state is stored as it is. -/
theorem pay6_eq (v : Vec F S1x128 .f32) : k0_pay6 v = v := by
  unfold k0_pay6
  exact shapeCast_id _ _

set_option maxHeartbeats 1000000 in
/-- The body of a point, on the contents of its buffers: it leaves the operands as they were, the output block at
    `outBlock` of the hidden state it starts from, and the carrying scratch at the hidden state after all 2048 steps. -/
theorem body_run (E : Set ℕ) (K : PUnit → sProp 𝕄)
    (x0 : Vec F S2048x96 .f32) (x1 : Vec F S2048x32 .f32) (x2 : Vec F S96x384 .f32) (x3 : Vec F S128x384 .f32) (x4 : Vec F S1x384 .f32) (x5 : Vec F S1x128 .f32) (x6 : Vec F S1x128 .f32) (x7 : Vec F S1x1 .f32) (xs : Vec F S1x128 .f32) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
          ∗ owns (c : Thread nD τ) arg9 fullShare (outBlock x3 x5 (k0_pay3 x0 x2 x4) (start i x6 xs) x1 x7)
          ∗ (∃ d, owns (c : Thread nD τ) arg10 fullShare d) ∗ (∃ d, owns (c : Thread nD τ) arg11 fullShare d)
          ∗ owns (c : Thread nD τ) arg12 fullShare (hid x3 x5 (k0_pay3 x0 x2 x4) (start i x6 xs) 2048)) -∗ K ⟨⟩))
    ⊢ wp frame (wpE (defs₀ (F := F)) Variants.none c none) E (cc0__gru_body i arg1 harg1 arg2 harg2 arg3 harg3 arg4 harg4 arg5 harg5 arg6 harg6 arg7 harg7 arg8 harg8 arg9 harg9 arg10 harg10 arg11 harg11 arg12 harg12) K := by
  simp only [cc0__gru_body_eq_skeleton]; unfold cc0__gru_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs2
  have e0 : arg1.view.readAt (Elt F) (Rect.unit (s := S2048x96) ![0, 0] S2048x96.size inb_S2048x96_S2048x96_0_0).toLoadRect (harg1.unread x0) = x0 :=
    (View.readAt_full arg1.view _ _).trans hf0
  have e1 : arg2.view.readAt (Elt F) (Rect.unit (s := S2048x32) ![0, 0] S2048x32.size inb_S2048x32_S2048x32_0_0).toLoadRect (harg2.unread x1) = x1 :=
    (View.readAt_full arg2.view _ _).trans hf1
  have e2 : arg3.view.readAt (Elt F) (Rect.unit (s := S96x384) ![0, 0] S96x384.size inb_S96x384_S96x384_0_0).toLoadRect (harg3.unread x2) = x2 :=
    (View.readAt_full arg3.view _ _).trans hf2
  have e3 : arg4.view.readAt (Elt F) (Rect.unit (s := S128x384) ![0, 0] S128x384.size inb_S128x384_S128x384_0_0).toLoadRect (harg4.unread x3) = x3 :=
    (View.readAt_full arg4.view _ _).trans hf3
  have e4 : arg5.view.readAt (Elt F) (Rect.unit (s := S1x384) ![0, 0] S1x384.size inb_S1x384_S1x384_0_0).toLoadRect (harg5.unread x4) = x4 :=
    (View.readAt_full arg5.view _ _).trans hf4
  have e5 : arg6.view.readAt (Elt F) (Rect.unit (s := S1x128) ![0, 0] S1x128.size inb_S1x128_S1x128_0_0).toLoadRect (harg6.unread x5) = x5 :=
    (View.readAt_full arg6.view _ _).trans hf5
  have e6 : arg7.view.readAt (Elt F) (Rect.unit (s := S1x128) ![0, 0] S1x128.size inb_S1x128_S1x128_0_0).toLoadRect (harg7.unread x6) = x6 :=
    (View.readAt_full arg7.view _ _).trans hf6
  have e7 : arg8.view.readAt (Elt F) (Rect.unit (s := S1x1) ![0, 0] ![1, 1] inb_S1x1_S1x1_0_0).toLoadRect (harg8.unread x7) = x7 :=
    (View.readAt_full arg8.view _ _).trans hf7
  have es : arg12.view.readAt (Elt F) (Rect.unit (s := S1x128) ![0, 0] S1x128.size inb_S1x128_S1x128_0_0).toLoadRect (harg12.unread xs) = xs :=
    (View.readAt_full arg12.view _ _).trans hfs2
  by_cases hc0 : cond i
  · have hs : start i x6 xs = x6 := if_pos hc0
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]
    · iexists _; isplitr; swap; · iexact H8
      ipureintro
      sl_unfold_words
      refine (View.read_writes_full arg9.view _ _ _ _).trans ?_
      rw [stored_eq, View.read_writes_full, View.readCov_full]
      rw [pay2_eq, hs]
      rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro
    sl_unfold_words
    refine (View.read_writes_full arg12.view _ _ _ _).trans ?_
    rw [yield_eq, View.read_writes_full, View.readCov_full]
    rw [pay6_eq, pay2_eq, hs]
  · have hs : start i x6 xs = xs := if_neg hc0
    sl_exec (disch := first | sl_exact hc0)
    sl_step
    iapply Hk
    isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]
    · iexists _; isplitr; swap; · iexact H8
      ipureintro
      sl_unfold_words
      refine (View.read_writes_full arg9.view _ _ _ _).trans ?_
      rw [stored_eq, View.read_writes_full]
      rw [hs]
      rfl
    isplitl [HS0]
    · iexists _, _; isplitr; swap; · iexact HS0
      ipureintro; rfl
    isplitl [HS1]
    · iexists _, _; isplitr; swap; · iexact HS1
      ipureintro; rfl
    iexists _; isplitr; swap; · iexact HS2
    ipureintro
    sl_unfold_words
    refine (View.read_writes_full arg12.view _ _ _ _).trans ?_
    rw [yield_eq, View.read_writes_full]
    rw [pay6_eq, hs]

end Cert.KernelIdeal.Gru
end
-- ==== Proof.Run.lean ====
module

public import proofs.«01_k».proof.Proof.Body

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs a point's body is called with -/

abbrev buf0 (t : Fin cfg0.N) := win0_0.stage (cfg0.slots t 0)
abbrev buf1 (t : Fin cfg0.N) := win0_1.stage (cfg0.slots t 1)
abbrev buf2 (t : Fin cfg0.N) := win0_2.stage (cfg0.slots t 2)
abbrev buf3 (t : Fin cfg0.N) := win0_3.stage (cfg0.slots t 3)
abbrev buf4 (t : Fin cfg0.N) := win0_4.stage (cfg0.slots t 4)
abbrev buf5 (t : Fin cfg0.N) := win0_5.stage (cfg0.slots t 5)
abbrev buf6 (t : Fin cfg0.N) := win0_6.stage (cfg0.slots t 6)
abbrev buf7 (t : Fin cfg0.N) := win0_7.stage (cfg0.slots t 7)
abbrev buf8 (t : Fin cfg0.N) := win0_8.stage (cfg0.slots t 8)

/-- The scratch that holds a chunk's input gates, the one that holds its hidden states, and the one that carries the hidden state. -/
abbrev scr0 := Memref.whole cc0_scratch0
abbrev scr1 := Memref.whole cc0_scratch1
abbrev scr2 := Memref.whole cc0_scratch2

/-- What the launch hands the region besides the windows: the three scratches at anything and the generator register. -/
theorem scratches_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA
  rw [scopedRest0_eq]
  simp only [scr0, scr1, scr2, owns_whole]
  try rfl

/-! ## The hidden state from point to point -/

/-- The hidden state on entry to point `n`: the one handed to the kernel at the first, then what the chunk before ends in. -/
def entry (c : Dev nD) : (n : ℕ) → n ≤ cfg0.N → Vec F S1x128 .f32
  | 0, _ => iblk m c 6 ⟨0, lt_of_lt_of_eq (by norm_num) N_0.symm⟩
  | n + 1, h => hid (iblk m c 3 ⟨n, h⟩) (iblk m c 5 ⟨n, h⟩) (k0_pay3 (iblk m c 0 ⟨n, h⟩) (iblk m c 2 ⟨n, h⟩) (iblk m c 4 ⟨n, h⟩))
      (entry c n (Nat.le_of_lt h)) 2048

/-- What point `t` leaves in its output block. -/
def result (c : Dev nD) (t : Fin cfg0.N) : Vec F S2048x1 .f32 :=
  outBlock (iblk m c 3 t) (iblk m c 5 t) (k0_pay3 (iblk m c 0 t) (iblk m c 2 t) (iblk m c 4 t)) (entry m c t.val (Nat.le_of_lt t.isLt))
    (iblk m c 1 t) (iblk m c 7 t)

/-- Only the first point starts from the hidden state handed to the kernel. -/
theorem cond_iff : ∀ t : Fin grid0.N, cond (grid0.coords t) ↔ t.val = 0 := fun t => by
  have ht : t.val < 32 := lt_of_lt_of_eq t.isLt N_0
  have e0 : (grid0.coords t 0).val = t.val / 1 % 32 := Pipeline.Grid.coords_val t 0 (by decide) rfl
  simp only [cond, e0]
  word_cmp

/-- At the first point the body starts from the entry state whatever the scratch holds. -/
theorem start_first (c : Dev nD) (t : Fin cfg0.N) (h0 : t.val = 0) (xs : Vec F S1x128 .f32) :
    start (grid0.coords t) (iblk m c 6 t) xs = entry m c t.val (Nat.le_of_lt t.isLt) := by
  obtain ⟨n, hn⟩ := t
  obtain rfl : n = 0 := h0
  exact if_pos ((cond_iff ⟨0, hn⟩).mpr rfl)

/-- At a later point it starts from the carried state. -/
theorem start_later (c : Dev nD) (t : Fin cfg0.N) (h0 : t.val ≠ 0) (xs : Vec F S1x128 .f32) :
    start (grid0.coords t) (iblk m c 6 t) xs = xs :=
  if_neg fun h => h0 ((cond_iff t).mp h)

/-! ## The region's invariant and proof data -/

/-- The invariant before position `n`: the first two scratches at anything, the third at the entry state (at anything before
    the first point), and the generator register. -/
def Inv (c : Dev nD) : (n : ℕ) → n ≤ cfg0.N → sProp 𝕄
  | 0, _ => Pipeline.ΦA spec0 c
  | n + 1, hn => iprop(iprop((∃ d, owns (c : Thread nD τ) scr0 fullShare d) ∗ (∃ d, owns (c : Thread nD τ) scr1 fullShare d) ∗ owns (c : Thread nD τ) scr2 fullShare (entry m c (n + 1) hn)) ∗ (∃ r, prngReg c r))

/-- Before the first point nothing is known of the scratch. -/
theorem Inv_first (c : Dev nD) (n : ℕ) (h : n ≤ cfg0.N) (hz : n = 0) : Inv m c n h = Pipeline.ΦA spec0 c := by
  subst hz; rfl

/-- What holds between points, after point `n`. -/
theorem Inv_next (c : Dev nD) (n : ℕ) (hn : n < cfg0.N) :
    Inv m c (n + 1) hn = iprop(iprop((∃ d, owns (c : Thread nD τ) scr0 fullShare d) ∗ (∃ d, owns (c : Thread nD τ) scr1 fullShare d) ∗ owns (c : Thread nD τ) scr2 fullShare (entry m c (n + 1) hn)) ∗ (∃ r, prngReg c r)) := rfl

/-- What holds before any point but the first. -/
theorem Inv_later (c : Dev nD) (n : ℕ) (h : n ≤ cfg0.N) (hz : n ≠ 0) :
    Inv m c n h = iprop(iprop((∃ d, owns (c : Thread nD τ) scr0 fullShare d) ∗ (∃ d, owns (c : Thread nD τ) scr1 fullShare d) ∗ owns (c : Thread nD τ) scr2 fullShare (entry m c n h)) ∗ (∃ r, prngReg c r)) := by
  cases n with
  | zero => exact absurd rfl hz
  | succ n => rfl

/-- The pipeline's proof data on core `c`: the arrays as the region finds them; each input block stays, the output block ends
    at `result`; nothing is owed; the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => result m c t
  Φ t := Inv m c t.val (Nat.le_of_lt_succ t.isLt)
  q _ := fullShare
  owed _ := 0

/-- Each window's array enters the region as the host operations left it. -/
theorem A_eq (c : Dev nD) (w : Fin cfg0.W) : (dats m 0 c).A w = V m c (Pipeline.arrRef spec0 w) := by
  dsimp only [dats]

/-- What holds before point `t`, by the point's number. -/
theorem Inv_castSucc (c : Dev nD) (t : Fin cfg0.N) :
    (dats m 0 c).Φ t.castSucc = Inv m c t.val (Nat.le_of_lt t.isLt) := by
  dsimp only [dats]; exact Pipeline.Dat.Φ_castSucc (Inv m c) t

/-- A point leaves the blocks of the operands as they were, and its output block at `result`. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = result m c t := by dsimp only [dats]

/-- A point finds in each operand's buffer that operand's block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ d, owns (c : Thread nD τ) (buf5 t) fullShare ((dats m 0 c).before 5 t d)) ∗ (∃ d, owns (c : Thread nD τ) (buf6 t) fullShare ((dats m 0 c).before 6 t d)) ∗ (∃ d, owns (c : Thread nD τ) (buf7 t) fullShare ((dats m 0 c).before 7 t d)) ∗ (∃ d, owns (c : Thread nD τ) (buf8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t) ∗ owns (c : Thread nD τ) (buf1 t) fullShare ((dats m 0 c).after 1 t) ∗ owns (c : Thread nD τ) (buf2 t) fullShare ((dats m 0 c).after 2 t) ∗ owns (c : Thread nD τ) (buf3 t) fullShare ((dats m 0 c).after 3 t) ∗ owns (c : Thread nD τ) (buf4 t) fullShare ((dats m 0 c).after 4 t) ∗ owns (c : Thread nD τ) (buf5 t) fullShare ((dats m 0 c).after 5 t) ∗ owns (c : Thread nD τ) (buf6 t) fullShare ((dats m 0 c).after 6 t) ∗ owns (c : Thread nD τ) (buf7 t) fullShare ((dats m 0 c).after 7 t) ∗ owns (c : Thread nD τ) (buf8 t) fullShare ((dats m 0 c).after 8 t))

set_option maxHeartbeats 2000000 in
/-- The body at any point: its inputs' buffers hold their blocks, the third scratch the entry state; it leaves the output's
    buffer at `result` and the scratch at the next entry state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = Inv m c (t.val + 1) t.isLt from rfl, Inv_next]
  by_cases hz : t.val = 0
  · rw [Inv_castSucc m c t, Inv_first m c _ _ hz, scratches_eq]
    iintro ⟨⟨⟨HS0, HS1, ⟨%xs, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_run c (grid0.coords t) _ _ _ _ _ _ _ _ _ _ _ _ _ _ _ _ _ _ _ _ _ _ _ _ Set.univ _ (iblk m c 0 t) (iblk m c 1 t) (iblk m c 2 t) (iblk m c 3 t) (iblk m c 4 t) (iblk m c 5 t) (iblk m c 6 t) (iblk m c 7 t) xs)
    rw [start_first m c t hz xs]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Inv_castSucc m c t, Inv_later m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_run c (grid0.coords t) _ _ _ _ _ _ _ _ _ _ _ _ _ _ _ _ _ _ _ _ _ _ _ _ Set.univ _ (iblk m c 0 t) (iblk m c 1 t) (iblk m c 2 t) (iblk m c 3 t) (iblk m c 4 t) (iblk m c 5 t) (iblk m c 6 t) (iblk m c 7 t) (entry m c t.val (Nat.le_of_lt t.isLt)))
    rw [start_later m c t hz (entry m c t.val (Nat.le_of_lt t.isLt))]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- What the table of bodies runs at point `t`. -/
theorem defs₀_row (t : Fin cfg0.N) :
    defs₀ (F := F) .tc cfg0.body (cfg0.bodyArgs t (cfg0.slots t)) = bodyAt0 t := by
  unfold defs₀; rw [Defs.onTc_tc]

/-- The body of every point meets the proof data: from the invariant before the point to the one after it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = Inv m c 0 (Nat.zero_le _) from rfl, Inv_first m c 0 _ rfl]

/-- and the invariant after the last point gives it back. -/
theorem hout (c : Dev nD) : (dats m 0 c).Φ (Fin.last cfg0.N) ⊢ Pipeline.ΦA spec0 c := by
  rw [show (dats m 0 c).Φ (Fin.last cfg0.N) = Inv m c cfg0.N le_rfl from rfl,
    Inv_later m c _ _ (by have : cfg0.N = 32 := N_0; omega), scratches_eq]
  iintro ⟨⟨HS0, HS1, HS2⟩, Hg⟩
  isplitl [HS0 HS1 HS2]
  · isplitl [HS0]
    · iexact HS0
    isplitl [HS1]
    · iexact HS1
    iexists _; iexact HS2
  iexact Hg

/-! ## The run -/

set_option backward.isDefEq.respectTransparency.types false in
/-- Every weakly fair execution from a memory with zero counters ends; then the pipeline's arrays hold what the proof data
    computes, every other buffer what the region found, and every counter is zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the kernel ends with every argument array unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Gru

end
-- ==== Proof.Frames.lean ====
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The two printed kernels have one body table: its one label runs the same function on the same operands. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀))
    (funext fun l => funext fun a => ?_)
  match l, a with
  | ⟨0, _⟩, (t, s) => rfl

/-- So they have one table of definitions. -/
theorem tables_eq : Cert.Kernel.defs (F := Bits) = Cert.KernelIdeal.defs (F := Bits) := by
  unfold Cert.Kernel.defs Cert.KernelIdeal.defs
  exact congrArg (Pipeline.defs (Cert.Kernel.pcfgs (F := Bits))) bodies_eq

/-- The kernel on bit patterns ends with its arguments unchanged and every counter at zero: the frame of the idealized
    kernel holds for any carrier, and the two programs are one. -/
theorem frame_kernel : Cert.quiescent_Kernel (hKernel := Cert.Kernel.Gen.facts) := fun m ρ _ => by
  have h := Cert.KernelIdeal.Gru.frame (F := Bits) m ρ
  rw [← tables_eq] at h
  exact h

/-- The same of the idealized kernel, -/
theorem frame_ideal : Cert.quiescent_KernelIdeal (hKernelIdeal := Cert.KernelIdeal.Gen.facts) :=
  fun m ρ _ => Cert.KernelIdeal.Gru.frame m ρ

/-- and of the reference, which has no counter to leave. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Algebra.lean ====
module

public import Idealize.ShloMosaic.PureOps.Ideal
public import Mathlib.Analysis.SpecialFunctions.Trigonometric.DerivHyp

@[expose] public section

noncomputable section

namespace Cert.Gru

open Idealize.ShloMosaic

/-- One half, as an extended real. -/
def half : EReal := ((1 / 2 : ℝ) : EReal)

/-- The logistic function, `1 / (1 + exp (-x))`. -/
def logi (x : EReal) : EReal := Ideal.div 1 (1 + Ideal.exp (-x))

/-- An extended real that is a real number. -/
def IsReal (x : EReal) : Prop := ∃ r : ℝ, x = (r : EReal)

/-- One lane of a GRU step: from the input and hidden parts of the three gates, the candidate's recurrent bias and
    the old state, the new state. -/
def cell (ir hr iz hz gn hn b h : EReal) : EReal :=
  Ideal.tanh (gn + logi (ir + hr) * (hn + b))
    + logi (iz + hz) * (h - Ideal.tanh (gn + logi (ir + hr) * (hn + b)))

/-- Multiplying by one half distributes over every sum of extended reals. -/
theorem add_mul_half (a b : EReal) : (a + b) * half = a * half + b * half :=
  EReal.right_distrib_of_nonneg_of_ne_top (by exact_mod_cast (by norm_num : (0 : ℝ) ≤ 1 / 2))
    (EReal.coe_ne_top _) a b

/-- Multiplying by one half distributes over finite sums. -/
theorem sum_mul_half {n : ℕ} (f : Fin n → EReal) : ∑ k, f k * half = (∑ k, f k) * half := by
  induction n with
  | zero => simp
  | succ n ih => rw [Fin.sum_univ_succ, Fin.sum_univ_succ, ih fun k => f k.succ, add_mul_half]

/-- A product against weights halved beforehand is half the product. -/
theorem dot_half {n : ℕ} (f w : Fin n → EReal) : ∑ k, f k * (w k * half) = (∑ k, f k * w k) * half := by
  rw [← sum_mul_half]
  exact Finset.sum_congr rfl fun k _ => (mul_assoc _ _ _).symm

/-- The sum of real numbers is a real number. -/
theorem IsReal.add {x y : EReal} : IsReal x → IsReal y → IsReal (x + y)
  | ⟨a, ha⟩, ⟨b, hb⟩ => ⟨a + b, by rw [ha, hb, EReal.coe_add]⟩

/-- The difference of real numbers is a real number. -/
theorem IsReal.sub {x y : EReal} : IsReal x → IsReal y → IsReal (x - y)
  | ⟨a, ha⟩, ⟨b, hb⟩ => ⟨a - b, by rw [ha, hb, EReal.coe_sub]⟩

/-- The product of real numbers is a real number. -/
theorem IsReal.mul {x y : EReal} : IsReal x → IsReal y → IsReal (x * y)
  | ⟨a, ha⟩, ⟨b, hb⟩ => ⟨a * b, by rw [ha, hb, EReal.coe_mul]⟩

/-- A finite sum of real numbers is a real number. -/
theorem IsReal.sum {n : ℕ} (f : Fin n → EReal) (h : ∀ k, IsReal (f k)) : IsReal (∑ k, f k) := by
  induction n with
  | zero => exact ⟨0, by simp⟩
  | succ n ih => rw [Fin.sum_univ_succ]; exact (h 0).add (ih _ fun k => h k.succ)

/-- An extended real whose absolute value is below `⊤` is a real number. -/
theorem isReal_of_abs_lt {x : EReal} (h : max x (-x) < ⊤) : IsReal x := by
  induction x with
  | bot => simp at h
  | top => simp at h
  | coe r => exact ⟨r, rfl⟩

/-- The hyperbolic tangent is a real number everywhere. -/
theorem isReal_tanh (x : EReal) : IsReal (Ideal.tanh x) := by
  induction x with
  | bot => exact ⟨-1, rfl⟩
  | top => exact ⟨1, rfl⟩
  | coe r => exact ⟨Real.tanh r, rfl⟩

/-- On the reals, the logistic function is a shifted hyperbolic tangent of half the argument. -/
theorem real_logistic (r : ℝ) : 1 * (1 + Real.exp (-r))⁻¹ = 1 / 2 + 1 / 2 * Real.tanh (r * (1 / 2)) := by
  have e : Real.exp (-r) = Real.exp (-(r * (1 / 2))) * Real.exp (-(r * (1 / 2))) := by
    rw [← Real.exp_add]; congr 1; ring
  have p : Real.exp (r * (1 / 2)) * Real.exp (-(r * (1 / 2))) = 1 := by rw [← Real.exp_add]; simp
  rw [Real.tanh_eq_sinh_div_cosh, Real.sinh_eq, Real.cosh_eq, e]
  have h1 := Real.exp_pos (r * (1 / 2))
  have h2 := Real.exp_pos (-(r * (1 / 2)))
  generalize Real.exp (r * (1 / 2)) = a at *
  generalize Real.exp (-(r * (1 / 2))) = b at *
  have h3 : (1 + b * b) ≠ 0 := by positivity
  have h4 : a + b ≠ 0 := by positivity
  field_simp
  linear_combination (-2 * b) * p

/-- The logistic function is one half plus half the hyperbolic tangent of half the argument, at the infinities too. -/
theorem logi_eq (x : EReal) : logi x = half + half * Ideal.tanh (x * half) := by
  unfold logi half
  induction x with
  | bot =>
    rw [EReal.bot_mul_coe_of_pos (by norm_num), EReal.neg_bot]
    show Ideal.div 1 (1 + ⊤) = ((1 / 2 : ℝ) : EReal) + ((1 / 2 : ℝ) : EReal) * ((-1 : ℝ) : EReal)
    rw [← EReal.coe_mul, ← EReal.coe_add]
    have : (1 : EReal) + ⊤ = ⊤ := EReal.add_top_of_ne_bot (by decide)
    rw [this, Ideal.div, if_neg EReal.top_ne_zero]
    norm_num
  | top =>
    rw [EReal.top_mul_coe_of_pos (by norm_num), EReal.neg_top]
    show Ideal.div 1 (1 + 0) = ((1 / 2 : ℝ) : EReal) + ((1 / 2 : ℝ) : EReal) * ((1 : ℝ) : EReal)
    rw [← EReal.coe_mul, ← EReal.coe_add, add_zero, Ideal.div, if_neg one_ne_zero]
    norm_num
  | coe r =>
    rw [← EReal.coe_neg, ← EReal.coe_mul]
    show Ideal.div ((1 : ℝ) : EReal) (((1 : ℝ) : EReal) + (Real.exp (-r) : EReal))
      = ((1 / 2 : ℝ) : EReal) + ((1 / 2 : ℝ) : EReal) * (Real.tanh (r * (1 / 2)) : EReal)
    have hp : (1 + Real.exp (-r)) ≠ 0 := by positivity
    rw [← EReal.coe_add, ← EReal.coe_mul, ← EReal.coe_add, Ideal.div, if_neg (by exact_mod_cast hp),
      ← EReal.coe_inv, ← EReal.coe_mul, real_logistic]

/-- The logistic function is a real number everywhere. -/
theorem isReal_logi (x : EReal) : IsReal (logi x) := by
  rw [logi_eq]
  exact IsReal.add ⟨_, rfl⟩ (IsReal.mul ⟨_, rfl⟩ (isReal_tanh _))

/-- The step keeps the state a real number. -/
theorem isReal_cell (ir hr iz hz gn hn b h : EReal) (hh : IsReal h) : IsReal (cell ir hr iz hz gn hn b h) :=
  (isReal_tanh _).add ((isReal_logi _).mul (hh.sub (isReal_tanh _)))

/-- One lane of a GRU step from HALVED gates: with every part of the reset and update gates halved, and the
    candidate's hidden part and recurrent bias halved too, the step by hyperbolic tangents alone is the step by
    logistic functions. The candidate's hidden part, its bias and the old state must be real numbers; the input
    parts and the other two gates need not be. -/
theorem cell_half (ir hr iz hz gn hn b h : EReal) (hhn : IsReal hn) (hb : IsReal b) (hh : IsReal h) :
    (half - half * Ideal.tanh (iz * half + hz * half))
        * Ideal.tanh (Ideal.tanh (ir * half + hr * half) * (hn * half + b * half) + (gn + (hn * half + b * half)))
      + (half + half * Ideal.tanh (iz * half + hz * half)) * h
      = cell ir hr iz hz gn hn b h := by
  unfold cell
  rw [← add_mul_half, ← add_mul_half, ← add_mul_half, logi_eq, logi_eq]
  obtain ⟨tr, hr⟩ := isReal_tanh ((ir + hr) * half)
  obtain ⟨tz, hz⟩ := isReal_tanh ((iz + hz) * half)
  obtain ⟨m, hm⟩ := hhn.add hb
  obtain ⟨o, ho⟩ := hh
  rw [hr, hz, hm, ho]
  have e : (tr : EReal) * ((m : EReal) * half) + (gn + (m : EReal) * half) = gn + (half + half * (tr : EReal)) * (m : EReal) := by
    rw [add_left_comm]
    congr 1
    unfold half
    simp only [← EReal.coe_mul, ← EReal.coe_add]
    congr 1
    ring
  rw [e]
  obtain ⟨n, hn⟩ := isReal_tanh (gn + (half + half * (tr : EReal)) * (m : EReal))
  rw [hn]
  unfold half
  simp only [← EReal.coe_mul, ← EReal.coe_add, ← EReal.coe_sub]
  congr 1
  ring

/-- The printed word for one half. -/
theorem ofBits_half : Ideal.ofBits .f32 0x3F000000#32 = half := by
  simp [Ideal.ofBits, Ideal.ieee, half]
  rw [← EReal.coe_mul]
  norm_num

/-- The printed word for plus infinity. -/
theorem ofBits_inf : Ideal.ofBits .f32 0x7F800000#32 = ⊤ := by
  simp [Ideal.ofBits, Ideal.ieee]

end Cert.Gru
-- ==== Proof.Spec.lean ====
module

public import proofs.«01_k».proof.Proof.Algebra
public import Idealize.ShloMosaic.Lib.Pointwise

@[expose] public section

noncomputable section

namespace Cert.Gru

open Idealize.ShloMosaic

/-- The eight arguments of the problem, as arrays of extended reals. -/
structure Args where
  /-- the inputs of the recurrence, a row for each step -/
  x : FVec Ideal ⟨2, ![65536, 96]⟩ .f32
  /-- the weights of the read-out, a row for each step -/
  xl : FVec Ideal ⟨2, ![65536, 32]⟩ .f32
  /-- the first hidden state -/
  h0 : FVec Ideal ⟨1, ![128]⟩ .f32
  /-- the input weights of the three gates, one below the other -/
  wih : FVec Ideal ⟨2, ![384, 96]⟩ .f32
  /-- the recurrent weights of the three gates, one below the other -/
  whh : FVec Ideal ⟨2, ![384, 128]⟩ .f32
  /-- the input biases of the three gates -/
  bih : FVec Ideal ⟨1, ![384]⟩ .f32
  /-- the recurrent bias of the candidate gate -/
  bn : FVec Ideal ⟨1, ![128]⟩ .f32
  /-- the bias of the read-out -/
  lb : FVec Ideal ⟨1, ![1]⟩ .f32

/-- Lane `j` of the reset gate among the 384 gate lanes. -/
def laneR (j : Fin 128) : Fin 384 := ⟨j.val, by omega⟩
/-- Lane `j` of the update gate. -/
def laneZ (j : Fin 128) : Fin 384 := ⟨128 + j.val, by omega⟩
/-- Lane `j` of the candidate gate. -/
def laneN (j : Fin 128) : Fin 384 := ⟨256 + j.val, by omega⟩

/-- Step `n` as a row number (counted modulo the 65536 rows). -/
def row (n : ℕ) : Fin 65536 := ⟨n % 65536, Nat.mod_lt _ (by norm_num)⟩

/-- The input part of gate lane `q` at step `t`. -/
def gateIn (a : Args) (t : Fin 65536) (q : Fin 384) : EReal :=
  (∑ k : Fin 96, a.x (ix2 t k) * a.wih (ix2 q k)) + a.bih (ix1 q)

/-- The hidden part of gate lane `q` from the state `h`. -/
def gateHid (a : Args) (h : Fin 128 → EReal) (q : Fin 384) : EReal := ∑ k : Fin 128, a.whh (ix2 q k) * h k

/-- The state after step `t` from the state `h` before it. -/
def next (a : Args) (t : Fin 65536) (h : Fin 128 → EReal) (j : Fin 128) : EReal :=
  cell (gateIn a t (laneR j)) (gateHid a h (laneR j)) (gateIn a t (laneZ j)) (gateHid a h (laneZ j))
    (gateIn a t (laneN j)) (gateHid a h (laneN j)) (a.bn (ix1 j)) (h j)

/-- The state after `n` steps. -/
def state (a : Args) : ℕ → Fin 128 → EReal
  | 0 => fun j => a.h0 (ix1 j)
  | n + 1 => next a (row n) (state a n)

/-- The read-out of step `t`: the first 32 lanes of the state after the step against the step's read-out weights. -/
def readout (a : Args) (t : Fin 65536) : EReal :=
  (∑ l : Fin 32, state a (t.val + 1) ⟨l.val, by omega⟩ * a.xl (ix2 t l)) + a.lb (ix1 0)

/-- The result: every step's read-out, as one column. -/
def result (a : Args) : FVec Ideal ⟨2, ![65536, 1]⟩ .f32 := fun y => readout a (y 0)

/-- The arguments keep the state real: the first state, the recurrent weights of the candidate gate and its
    recurrent bias are real numbers. -/
structure Args.Finite (a : Args) : Prop where
  h0 : ∀ j : Fin 128, IsReal (a.h0 (ix1 j))
  whh : ∀ j k : Fin 128, IsReal (a.whh (ix2 (laneN j) k))
  bn : ∀ j : Fin 128, IsReal (a.bn (ix1 j))

/-- The hidden part of a candidate lane is a real number when the state is. -/
theorem isReal_gateHid {a : Args} (ha : a.Finite) {h : Fin 128 → EReal} (hh : ∀ j, IsReal (h j)) (j : Fin 128) :
    IsReal (gateHid a h (laneN j)) :=
  IsReal.sum _ fun k => (ha.whh j k).mul (hh k)

/-- Every state is made of real numbers. -/
theorem isReal_state {a : Args} (ha : a.Finite) : ∀ (n : ℕ) (j : Fin 128), IsReal (state a n j)
  | 0, j => ha.h0 j
  | n + 1, j => isReal_cell _ _ _ _ _ _ _ _ (isReal_state ha n j)

end Cert.Gru
-- ==== Proof.Value.lean ====
module

public import proofs.«01_k».proof.Proof.Run
public import proofs.«01_k».proof.Proof.Spec
public import Idealize.ShloMosaic.Lib.Pipeline.ValueKit

@[expose] public section

set_option maxRecDepth 16384

noncomputable section

namespace Cert.KernelIdeal.Gru

open Cert.KernelIdeal Cert.KernelIdeal.Gen
open Idealize.ShloMosaic Idealize.ShloMosaic.TcCoe Idealize.SL.Sem
open Idealize.ShloMosaic.Pipeline (Dat)
open Cert.Gru (Args half laneR laneZ laneN row gateIn gateHid next state readout IsReal)

/-- One step of the kernel on halved weights is the problem's step, lane by lane. -/
theorem pay4_apply {a : Args} (ha : a.Finite) (t : Fin 65536) (s : Fin 128 → EReal) (hs : ∀ j, IsReal (s j))
    (W : FVec Ideal S128x384 .f32) (b : FVec Ideal S1x128 .f32) (h : FVec Ideal S1x128 .f32) (g : FVec Ideal S1x384 .f32)
    (hW : ∀ (k : Fin 128) (q : Fin 384), W (ix2 k q) = a.whh (ix2 q k) * half)
    (hb : ∀ j : Fin 128, b (ix2 (0 : Fin 1) j) = a.bn (ix1 j) * half)
    (hh : ∀ j : Fin 128, h (ix2 (0 : Fin 1) j) = s j)
    (hR : ∀ j : Fin 128, g (ix2 (0 : Fin 1) (laneR j)) = gateIn a t (laneR j) * half)
    (hZ : ∀ j : Fin 128, g (ix2 (0 : Fin 1) (laneZ j)) = gateIn a t (laneZ j) * half)
    (hN : ∀ j : Fin 128, g (ix2 (0 : Fin 1) (laneN j)) = gateIn a t (laneN j)) (j : Fin 128) :
    k0_pay4 (F := Ideal) W b h g (ix2 (0 : Fin 1) j) = next a t s j := by
  have e : ∀ q : Fin 384, ∑ k : Fin 128, h (ix2 (0 : Fin 1) k) * W (ix2 k q) = gateHid a s q * half := fun q => by
    unfold gateHid
    rw [← Cert.Gru.sum_mul_half]
    refine Finset.sum_congr rfl fun k _ => ?_
    rw [hh, hW, ← mul_assoc, mul_comm (s k)]
  pointwise [k0_pay4, Cert.Gru.ofBits_half]
  show (half - half * Ideal.tanh (g (ix2 (0 : Fin 1) (laneZ j)) + ∑ k : Fin 128, h (ix2 (0 : Fin 1) k) * W (ix2 k (laneZ j))))
        * Ideal.tanh (Ideal.tanh (g (ix2 (0 : Fin 1) (laneR j)) + ∑ k : Fin 128, h (ix2 (0 : Fin 1) k) * W (ix2 k (laneR j)))
            * (∑ k : Fin 128, h (ix2 (0 : Fin 1) k) * W (ix2 k (laneN j)) + b (ix2 (0 : Fin 1) j))
          + (g (ix2 (0 : Fin 1) (laneN j)) + (∑ k : Fin 128, h (ix2 (0 : Fin 1) k) * W (ix2 k (laneN j)) + b (ix2 (0 : Fin 1) j))))
      + (half + half * Ideal.tanh (g (ix2 (0 : Fin 1) (laneZ j)) + ∑ k : Fin 128, h (ix2 (0 : Fin 1) k) * W (ix2 k (laneZ j))))
        * h (ix2 (0 : Fin 1) j) = _
  rw [e, e, e, hR, hZ, hN, hb, hh]
  exact Cert.Gru.cell_half _ _ _ _ _ _ _ _ (Cert.Gru.isReal_gateHid ha hs j) (ha.bn j) (hs j)

/-- The scale the host puts on gate lane `q` of the input weights and biases: one half for the reset and update
    gates, one for the candidate. -/
def scale (q : Fin 384) : EReal := if q.val < 256 then half else 1

/-- The block's input gates on scaled weights are the problem's, scaled. -/
theorem pay3_apply (a : Args) (t : Fin 65536) (r : Fin 2048) (x : FVec Ideal S2048x96 .f32) (w : FVec Ideal S96x384 .f32)
    (b : FVec Ideal S1x384 .f32) (hx : ∀ k : Fin 96, x (ix2 r k) = a.x (ix2 t k))
    (hw : ∀ (k : Fin 96) (q : Fin 384), w (ix2 k q) = a.wih (ix2 q k) * scale q)
    (hb : ∀ q : Fin 384, b (ix2 (0 : Fin 1) q) = a.bih (ix1 q) * scale q) (q : Fin 384) :
    k0_pay3 (F := Ideal) x w b (ix2 r q) = gateIn a t q * scale q := by
  pointwise [k0_pay3]
  simp only [hx, hw, hb]
  unfold gateIn scale
  by_cases hq : q.val < 256
  · simp only [if_pos hq]
    rw [Cert.Gru.dot_half, Cert.Gru.add_mul_half]
  · simp only [if_neg hq, mul_one]

variable (m : (ℓ : Loc nD τ sig) → Buf (Elt Ideal) ℓ) (c : Dev nD)

/-- The problem's arguments, as the kernel's core `c` holds them. -/
def args : Args where
  x := m ((c.tc : Thread nD τ).loc main_arg0)
  xl := m ((c.tc : Thread nD τ).loc main_arg1)
  h0 := m ((c.tc : Thread nD τ).loc main_arg2)
  wih := m ((c.tc : Thread nD τ).loc main_arg3)
  whh := m ((c.tc : Thread nD τ).loc main_arg4)
  bih := m ((c.tc : Thread nD τ).loc main_arg5)
  bn := m ((c.tc : Thread nD τ).loc main_arg6)
  lb := m ((c.tc : Thread nD τ).loc main_arg7)

/-- Where each window's block lies at grid point `t`: the inputs, read-out weights and result move down by one block
    a point, the other operands stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- Row `r` of grid point `t`'s blocks, as a row of the whole arrays. -/
def at_ (t : Fin cfg0.N) (r : Fin 2048) : Fin 65536 := ⟨t.val * 2048 + r.val, by
  have : t.val < 32 := t.isLt
  omega⟩

/-- Grid point `t`'s block of inputs. -/
theorem blk_x (t : Fin cfg0.N) (r : Fin 2048) (k : Fin 96) :
    (iblk m c 0 t : FVec Ideal S2048x96 .f32) (ix2 r k) = (args m c).x (ix2 (at_ t r) k) := by
  unfold at_ args
  blk_ext [iblk, V, idx t]

/-- Grid point `t`'s block of read-out weights. -/
theorem blk_xl (t : Fin cfg0.N) (r : Fin 2048) (k : Fin 32) :
    (iblk m c 1 t : FVec Ideal S2048x32 .f32) (ix2 r k) = (args m c).xl (ix2 (at_ t r) k) := by
  unfold at_ args
  blk_ext [iblk, V, idx t]

/-- The input weights the kernel is given: transposed and scaled. -/
theorem blk_wih (t : Fin cfg0.N) (k : Fin 96) (q : Fin 384) :
    (iblk m c 2 t : FVec Ideal S96x384 .f32) (ix2 k q) = (args m c).wih (ix2 q k) * scale q := by
  have e : ((View.whole main_v6).slice (win0_2.rect t)).emb (ix2 k q) = ix2 k q := by blk_ext [idx t]
  unfold args scale
  blk_simp [iblk, idx t]
  entry_read
  rw [e]
  pointwise [Cert.Gru.ofBits_half]
  rfl

/-- The recurrent weights the kernel is given: transposed and halved. -/
theorem blk_whh (t : Fin cfg0.N) (k : Fin 128) (q : Fin 384) :
    (iblk m c 3 t : FVec Ideal S128x384 .f32) (ix2 k q) = (args m c).whh (ix2 q k) * half := by
  have e : ((View.whole main_v9).slice (win0_3.rect t)).emb (ix2 k q) = ix2 k q := by blk_ext [idx t]
  unfold args
  blk_simp [iblk, idx t]
  entry_read
  rw [e]
  pointwise [Cert.Gru.ofBits_half]

/-- The input biases the kernel is given: scaled, as one row. -/
theorem blk_bih (t : Fin cfg0.N) (q : Fin 384) :
    (iblk m c 4 t : FVec Ideal S1x384 .f32) (ix2 (0 : Fin 1) q) = (args m c).bih (ix1 q) * scale q := by
  have e : ((View.whole main_v11).slice (win0_4.rect t)).emb (ix2 (0 : Fin 1) q) = ix2 (0 : Fin 1) q := by blk_ext [idx t]
  unfold args scale
  blk_simp [iblk, idx t]
  entry_read
  rw [e]
  pointwise [Cert.Gru.ofBits_half]
  rfl

/-- The candidate's recurrent bias the kernel is given: halved, as one row. -/
theorem blk_bn (t : Fin cfg0.N) (j : Fin 128) :
    (iblk m c 5 t : FVec Ideal S1x128 .f32) (ix2 (0 : Fin 1) j) = (args m c).bn (ix1 j) * half := by
  have e : ((View.whole main_v14).slice (win0_5.rect t)).emb (ix2 (0 : Fin 1) j) = ix2 (0 : Fin 1) j := by blk_ext [idx t]
  unfold args
  blk_simp [iblk, idx t]
  entry_read
  rw [e]
  pointwise [Cert.Gru.ofBits_half]

/-- The first hidden state the kernel is given, as one row. -/
theorem blk_h0 (t : Fin cfg0.N) (j : Fin 128) :
    (iblk m c 6 t : FVec Ideal S1x128 .f32) (ix2 (0 : Fin 1) j) = (args m c).h0 (ix1 j) := by
  have e : ((View.whole main_v15).slice (win0_6.rect t)).emb (ix2 (0 : Fin 1) j) = ix2 (0 : Fin 1) j := by blk_ext [idx t]
  unfold args
  blk_simp [iblk, idx t]
  entry_read
  rw [e]
  pointwise

/-- The read-out bias the kernel is given, as one cell. -/
theorem blk_lb (t : Fin cfg0.N) :
    (iblk m c 7 t : FVec Ideal S1x1 .f32) (ix2 (0 : Fin 1) (0 : Fin 1)) = (args m c).lb (ix1 (0 : Fin 1)) := by
  have e : ((View.whole main_v16).slice (win0_7.rect t)).emb (ix2 (0 : Fin 1) (0 : Fin 1)) = ix2 (0 : Fin 1) (0 : Fin 1) := by
    blk_ext [idx t]
  unfold args
  blk_simp [iblk, idx t]
  entry_read
  rw [e]
  pointwise

variable {m c}

/-- The input gates of a chunk, row by row. -/
theorem gates_apply (t : Fin cfg0.N) (r : Fin 2048) (q : Fin 384) :
    k0_pay3 (F := Ideal) (iblk m c 0 t) (iblk m c 2 t) (iblk m c 4 t) (ix2 r q) = gateIn (args m c) (at_ t r) q * scale q :=
  pay3_apply (args m c) (at_ t r) r _ _ _ (fun k => blk_x m c t r k) (blk_wih m c t) (blk_bih m c t) q

/-- The hidden state after `k` steps of chunk `t` is the problem's, when the chunk starts from the problem's. -/
theorem hid_apply (ha : (args m c).Finite) (t : Fin cfg0.N) (h : FVec Ideal S1x128 .f32)
    (hh : ∀ j : Fin 128, h (ix2 (0 : Fin 1) j) = state (args m c) (t.val * 2048) j) (k : ℕ) (hk : k ≤ 2048) (j : Fin 128) :
    hid (F := Ideal) (iblk m c 3 t) (iblk m c 5 t) (k0_pay3 (iblk m c 0 t) (iblk m c 2 t) (iblk m c 4 t)) h k (ix2 (0 : Fin 1) j)
      = state (args m c) (t.val * 2048 + k) j := by
  induction k generalizing j with
  | zero => exact hh j
  | succ k ih =>
    have hr : row (t.val * 2048 + k) = at_ t ⟨k % 2048, Nat.mod_lt _ (by norm_num)⟩ := by
      have : t.val < 32 := t.isLt
      refine Fin.ext ?_
      show (t.val * 2048 + k) % 65536 = t.val * 2048 + k % 2048
      omega
    have hs : state (args m c) (t.val * 2048 + (k + 1)) j
        = next (args m c) (row (t.val * 2048 + k)) (state (args m c) (t.val * 2048 + k)) j := rfl
    rw [hs, hr]
    refine pay4_apply ha _ _ (Cert.Gru.isReal_state ha _) _ _ _ _ (blk_whh m c t) (blk_bn m c t)
      (fun j => ih (Nat.le_of_succ_le hk) j) (fun j => ?_) (fun j => ?_) (fun j => ?_) j
    · exact (gates_apply t _ (laneR j)).trans (congrArg _ (if_pos (by have := j.isLt; show j.val < 256; omega)))
    · exact (gates_apply t _ (laneZ j)).trans (congrArg _ (if_pos (by have := j.isLt; show 128 + j.val < 256; omega)))
    · exact (gates_apply t _ (laneN j)).trans
        ((congrArg _ (if_neg (by show ¬ 256 + j.val < 256; omega))).trans (mul_one _))

/-- Chunk `n` starts from the problem's hidden state before row `2048 n`. -/
theorem entry_apply (ha : (args m c).Finite) (n : ℕ) (hn : n ≤ cfg0.N) (j : Fin 128) :
    entry m c n hn (ix2 (0 : Fin 1) j) = state (args m c) (n * 2048) j := by
  induction n generalizing j with
  | zero =>
    refine (blk_h0 m c _ j).trans ?_
    rw [Nat.zero_mul]
    rfl
  | succ n ih =>
    rw [Nat.succ_mul]
    exact hid_apply ha ⟨n, hn⟩ _ (fun j => ih (Nat.le_of_lt hn) j) 2048 le_rfl j

/-- What the read-out of a block is, over any hidden rows. -/
theorem read_apply (Y xl : FVec Ideal S2048x32 .f32) (lb : FVec Ideal S1x1 .f32) (y : S2048x1.Idx) :
    k0_pay1 (F := Ideal) (k0_pay7 Y xl) lb y
      = ∑ l : Fin 32, Y (ix2 (y 0) l) * xl (ix2 (y 0) l) + lb (ix2 (0 : Fin 1) (0 : Fin 1)) := by
  idx_vars y
  pointwise [k0_pay1, k0_pay7]

/-- What point `t` leaves in its output block: the problem's result at the block's rows. -/
theorem result_apply (ha : (args m c).Finite) (t : Fin cfg0.N) (y : S2048x1.Idx) :
    result m c t y = readout (args m c) (at_ t (y 0)) := by
  unfold result outBlock
  rw [read_apply, blk_lb]
  unfold readout
  refine congrArg (· + _) (Finset.sum_congr rfl fun l _ => ?_)
  refine congrArg₂ (· * ·) ?_ (blk_xl m c t (y 0) l)
  exact hid_apply ha t _ (entry_apply ha t.val _) ((y 0).val + 1) (y 0).isLt _

/-- Where point `t`'s output block lies in the result array. -/
theorem out_row (t : Fin cfg0.N) (y : S2048x1.Idx) :
    ((View.whole main_v17).slice (win0_8.rect t)).emb y = ix2 (at_ t (y 0)) (0 : Fin 1) := by
  unfold at_
  blk_ext [idx t]

/-- What the kernel leaves in its result array. -/
theorem final (ha : (args m c).Finite) : (dats m 0 c).arrAt 8 (cfgs 0).N = Cert.Gru.result (args m c) := by
  refine (dats m 0 c).arrAt_eq_of_covers 8 _ (by decide +kernel) fun t _ y => ?_
  blk_simp
  rw [after_8]
  refine (result_apply ha t y).trans ?_
  exact (congrArg (Cert.Gru.result (args m c)) (out_row t y)).symm

end Cert.KernelIdeal.Gru
-- ==== Proof.Reference.lean ====
module

public import proofs.«01_k».proof.Proof.Gen.ReferenceIdeal.Run
public import proofs.«01_k».proof.Proof.Spec

@[expose] public section

set_option maxRecDepth 16384

noncomputable section

namespace Cert.ReferenceIdeal.Gru

open Idealize.ShloMosaic Idealize.ShloMosaic.TcCoe Idealize.SL.Sem Idealize.ShloMosaic.StableHlo
open Cert.ReferenceIdeal Cert.ReferenceIdeal.Gen Cert.ReferenceIdeal.Value
open Cert.Gru (Args cell logi laneR laneZ laneN row gateIn readout state)

variable (V : Valuation τ sig (Elt Ideal))

/-- A row number below 65536, written as a 32-bit word, read signed and clamped into the array's rows, is itself. -/
theorem clamp_row (n : ℕ) (hn : n < 65536) :
    (min (max (BitVec.ofNat 32 n).toInt 0) ((65536 - 1 : ℕ) : ℤ)).toNat = n := by
  rw [BitVec.toInt_ofNat', Int.bmod_eq_of_le (by omega) (by omega)]
  omega

/-- Trip `n` reads row `n` of the input gates. -/
theorem gates_row (n : ℕ) (hn : n < 65536) (G : FVec Ideal S65536x384 .f32)
    (hc : V (Proc.devRef .tc main_v6_5) = constantI S_ 32 (BitVec.ofNat 32 n))
    (hG : V (Proc.devRef .tc main_v6_0) = G) :
    res_main_while0b_v7 V = fun y => G (ix2 ⟨n, hn⟩ (y 0)) := by
  funext y
  unfold res_main_while0b_v7
  rw [hc, hG]
  pointwise
  refine congrArg G (congrArg₂ ix2 (Fin.ext (clamp_row n hn)) (Fin.ext ?_))
  exact Nat.zero_add _

/-- The state trip `n` leaves, lane by lane: one GRU cell over row `n` of the input gates. -/
theorem step_state (n : ℕ) (hn : n < 65536) (G : FVec Ideal S65536x384 .f32) (W : FVec Ideal S384x128 .f32)
    (b : FVec Ideal S128 .f32) (h : FVec Ideal S128 .f32)
    (hc : V (Proc.devRef .tc main_v6_5) = constantI S_ 32 (BitVec.ofNat 32 n))
    (hG : V (Proc.devRef .tc main_v6_0) = G) (hW : V (Proc.devRef .tc main_v6_2) = W)
    (hb : V (Proc.devRef .tc main_v6_3) = b) (hh : V (Proc.devRef .tc main_v6_6) = h) (j : Fin 128) :
    (step_main_v6_6 V : FVec Ideal S128 .f32) (ix1 j)
      = cell (G (ix2 ⟨n, hn⟩ (laneR j))) (∑ k : Fin 128, W (ix2 (laneR j) k) * h (ix1 k))
          (G (ix2 ⟨n, hn⟩ (laneZ j))) (∑ k : Fin 128, W (ix2 (laneZ j) k) * h (ix1 k))
          (G (ix2 ⟨n, hn⟩ (laneN j))) (∑ k : Fin 128, W (ix2 (laneN j) k) * h (ix1 k)) (b (ix1 j)) (h (ix1 j)) := by
  unfold step_main_v6_6 res_main_while0b_v36 res_main_while0b_v33 res_main_while0b_v9
  rw [gates_row V n hn G hc hG, hW, hb, hh]
  pointwise [cell, logi, laneR, laneZ, laneN, id]

/-- The result array after trip `n`: row `n` is the trip's read-out, the other rows are as before. -/
theorem step_out (n : ℕ) (hn : n < 65536) (xl : FVec Ideal S65536x32 .f32) (lb : FVec Ideal S1 .f32)
    (o : FVec Ideal S65536x1 .f32) (h : FVec Ideal S128 .f32)
    (hc : V (Proc.devRef .tc main_v6_5) = constantI S_ 32 (BitVec.ofNat 32 n))
    (hx : V (Proc.devRef .tc main_v6_1) = xl) (hl : V (Proc.devRef .tc main_v6_4) = lb)
    (ho : V (Proc.devRef .tc main_v6_7) = o) (hh : res_main_while0b_v36 V = h) (t : Fin 65536) :
    (step_main_v6_7 V : FVec Ideal S65536x1 .f32) (ix2 t (0 : Fin 1))
      = if t.val = n then (∑ l : Fin 32, h (ix1 ⟨l.val, by omega⟩) * xl (ix2 t l)) + lb (ix1 (0 : Fin 1))
        else o (ix2 t (0 : Fin 1)) := by
  unfold step_main_v6_7
  rw [hc, hx, hl, ho, hh]
  pointwise [id]
  by_cases ht : t.val = n
  · subst ht
    rw [if_pos rfl, dif_pos]
    · refine congrArg (· + lb (ix1 (0 : Fin 1))) (Finset.sum_congr rfl fun l _ => ?_)
      refine congrArg (h (ix1 ⟨l.val, by omega⟩) * ·) (congrArg xl (congrArg₂ ix2 (Fin.ext (clamp_row t.val hn)) (Fin.ext ?_)))
      exact Nat.zero_add _
    · intro a
      match a with
      | ⟨0, _⟩ =>
        show (min (max (BitVec.ofNat 32 t.val).toInt 0) ((65536 - 1 : ℕ) : ℤ)).toNat ≤ t.val
          ∧ t.val < (min (max (BitVec.ofNat 32 t.val).toInt 0) ((65536 - 1 : ℕ) : ℤ)).toNat + 1
        rw [clamp_row t.val hn]
        omega
      | ⟨1, _⟩ => exact ⟨Nat.le_refl 0, Nat.zero_lt_one⟩
  · rw [if_neg ht, dif_neg]
    intro hall
    have h0 : (min (max (BitVec.ofNat 32 n).toInt 0) ((65536 - 1 : ℕ) : ℤ)).toNat ≤ t.val
        ∧ t.val < (min (max (BitVec.ofNat 32 n).toInt 0) ((65536 - 1 : ℕ) : ℤ)).toNat + 1 := hall (0 : Fin 2)
    rw [clamp_row n hn] at h0
    omega

/-- The buffers before trip `n` hold the problem's data: the trip's number, the input gates of all rows, the other
    arguments, the state after `n` steps, and the read-outs of the steps before `n`. -/
structure At (a : Args) (n : ℕ) (V : Valuation τ sig (Elt Ideal)) : Prop where
  counter : V (Proc.devRef .tc main_v6_5) = constantI S_ 32 (BitVec.ofNat 32 n)
  gates : V (Proc.devRef .tc main_v6_0) = (fun y => gateIn a (y 0) (y 1) : FVec Ideal S65536x384 .f32)
  xl : V (Proc.devRef .tc main_v6_1) = a.xl
  whh : V (Proc.devRef .tc main_v6_2) = a.whh
  bn : V (Proc.devRef .tc main_v6_3) = a.bn
  lb : V (Proc.devRef .tc main_v6_4) = a.lb
  state : V (Proc.devRef .tc main_v6_6) = (fun y => state a n (y 0) : FVec Ideal S128 .f32)
  done : ∃ o : FVec Ideal S65536x1 .f32, V (Proc.devRef .tc main_v6_7) = o
    ∧ ∀ t : Fin 65536, t.val < n → o (ix2 t (0 : Fin 1)) = readout a t

/-- The state a trip leaves is the next state. -/
theorem At.next {a : Args} {n : ℕ} {V : Valuation τ sig (Elt Ideal)} (hn : n < 65536) (h : At a n V) :
    step_main_v6_6 V = (fun y => Cert.Gru.state a (n + 1) (y 0) : FVec Ideal S128 .f32) := by
  funext y
  obtain ⟨j, rfl⟩ : ∃ j : Fin 128, y = ix1 j := ⟨y 0, eq_ix1 y⟩
  refine (step_state V n hn _ _ _ _ h.counter h.gates h.whh h.bn h.state j).trans ?_
  have e : row n = ⟨n, hn⟩ := Fin.ext (Nat.mod_eq_of_lt hn)
  show _ = Cert.Gru.next a (row n) (Cert.Gru.state a n) j
  rw [e]
  rfl

/-- One trip takes the data before trip `n` to the data before trip `n + 1`. -/
theorem At.step {a : Args} {n : ℕ} {V : Valuation τ sig (Elt Ideal)} (hn : n < 65536) (h : At a n V) :
    At a (n + 1) (STEP V) where
  counter := by
    rw [STEP_main_v6_5]
    unfold step_main_v6_5
    rw [h.counter]
    funext i
    show BitVec.ofNat 32 n + 1#32 = BitVec.ofNat 32 (n + 1)
    rw [BitVec.ofNat_add]
  gates := (STEP_main_v6_0 V).trans h.gates
  xl := (STEP_main_v6_1 V).trans h.xl
  whh := (STEP_main_v6_2 V).trans h.whh
  bn := (STEP_main_v6_3 V).trans h.bn
  lb := (STEP_main_v6_4 V).trans h.lb
  state := (STEP_main_v6_6 V).trans (h.next hn)
  done := by
    obtain ⟨o, ho, hd⟩ := h.done
    refine ⟨step_main_v6_7 V, STEP_main_v6_7 V, fun t ht => ?_⟩
    have e : res_main_while0b_v36 V = _ := h.next hn
    refine (step_out V n hn _ _ _ _ h.counter h.xl h.lb ho e t).trans ?_
    by_cases hte : t.val = n
    · subst hte
      rw [if_pos rfl]
      rfl
    · rw [if_neg hte]
      exact hd t (by omega)

/-- The problem's arguments, as the reference's core `c` holds them. -/
def args (m : (ℓ : Loc nD τ sig) → Buf (Elt Ideal) ℓ) (c : Dev nD) : Args where
  x := m ((c.tc : Thread nD τ).loc main_arg0)
  xl := m ((c.tc : Thread nD τ).loc main_arg1)
  h0 := m ((c.tc : Thread nD τ).loc main_arg2)
  wih := m ((c.tc : Thread nD τ).loc main_arg3)
  whh := m ((c.tc : Thread nD τ).loc main_arg4)
  bih := m ((c.tc : Thread nD τ).loc main_arg5)
  bn := m ((c.tc : Thread nD τ).loc main_arg6)
  lb := m ((c.tc : Thread nD τ).loc main_arg7)

variable (m : (ℓ : Loc nD τ sig) → Buf (Elt Ideal) ℓ) (ρ : Dev nD → PrngReg) (c : Dev nD)

/-- The input gates, read at a row and a lane: the row's product with the lane's weights, plus the lane's bias. -/
theorem gates_eq (x : FVec Ideal S65536x96 .f32) (w : FVec Ideal S384x96 .f32) (b : FVec Ideal S384 .f32) :
    (addf (Host.dotGeneral dot_S65536x96_S96x384_S65536x384_1_0_0_1_n_n none x
        (transpose S96x384 [1, 0] w transposes_S384x96_S96x384_1_0))
      (broadcastInDim S65536x384 ![0, 1] bcast_S1x384_S65536x384_0_1
        (broadcastInDim S1x384 ![1] bcast_S384_S1x384_1 b)) : FVec Ideal S65536x384 .f32)
      = fun y => (∑ k : Fin 96, x (ix2 (y 0) k) * w (ix2 (y 1) k)) + b (ix1 (y 1)) := by
  funext y
  idx_vars y
  pointwise

/-- What runs before the loop leaves the data of trip 0. -/
theorem at_zero : At (args m c) 0 (entryContents preI m c) := by
  constructor
  case done => exact ⟨_, rfl, fun t ht => absurd ht (Nat.not_lt_zero _)⟩
  case gates =>
    simp only [entryContents, afterL_cons, afterL_nil]
    after_reads_simp
    exact gates_eq _ _ _
  case state =>
    simp only [entryContents, afterL_cons, afterL_nil]
    after_reads_simp
    funext y
    exact congrArg (m ((c.tc : Thread nD τ).loc main_arg2)) (eq_ix1 y)
  all_goals
    simp only [entryContents, afterL_cons, afterL_nil]
    after_reads_simp
    rfl

/-- Before trip `n` the buffers hold the data of trip `n`. -/
theorem at_trip : ∀ n, n ≤ 65536 → At (args m c) n (STEP^[n] (entryContents preI m c))
  | 0, _ => at_zero m c
  | n + 1, hn => by
    rw [Function.iterate_succ_apply']
    exact (at_trip n (by omega)).step (by omega)

/-- The reference ends with its result array at the problem's result, its arguments unchanged. -/
theorem run : θ_run (defs (F := Ideal)) (onTc (τ := τ) (main (F := Ideal))) ⟨m, fun _ => 0, ρ⟩ fun r => ∀ c : Dev nD,
      r.2.mem ((c.tc : Thread nD τ).loc main_v6_7) = Cert.Gru.result (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ⟨(h c).1.trans ?_, (h c).2⟩) (Value.run (F := Ideal) m ρ)
  funext y
  obtain ⟨t, rfl⟩ : ∃ t : Fin 65536, y = ix2 t (0 : Fin 1) := ⟨y 0, by
    refine (eq_ix2 y).trans (congrArg (ix2 (y 0)) (Subsingleton.elim (α := Fin 1) (y 1) 0))⟩
  obtain ⟨o, ho, hd⟩ := (at_trip m c 65536 le_rfl).done
  exact (congrFun ho (ix2 t (0 : Fin 1))).trans (hd t t.isLt)

end Cert.ReferenceIdeal.Gru
-- ==== Proof.Equal.lean ====
module

public import proofs.«01_k».proof.Defs
public import proofs.«01_k».proof.Proof.Value
public import proofs.«01_k».proof.Proof.Reference
public import proofs.«01_k».proof.Proof.Gen.Pre_finite_state

@[expose] public section

set_option maxRecDepth 16384

noncomputable section

namespace Cert.Proof

open Idealize.ShloMosaic Idealize.ShloMosaic.TcCoe Idealize.SL.Sem
open Cert.Gru (IsReal)

/-- A cell whose absolute value the comparison finds below infinity holds a real number. -/
theorem isReal_of_cmp {x : EReal}
    (h : BitVec.ofBool (decide (FloatOps.absf (F := Ideal) (φ := .f32) x < Ideal.ofBits .f32 0x7F800000#32)) = 1#1) : IsReal x := by
  rw [Cert.Gru.ofBits_inf] at h
  refine Cert.Gru.isReal_of_abs_lt ?_
  by_contra hn
  rw [decide_eq_false (show ¬ FloatOps.absf (F := Ideal) (φ := .f32) x < (⊤ : EReal) from hn)] at h
  exact absurd h (by decide)

/-- The precondition says that the first hidden state, the candidate's recurrent weights and its recurrent bias are
    real numbers. -/
theorem finite_of_pre (m : (ℓ : Loc Cert.KernelIdeal.nD Cert.KernelIdeal.τ Cert.KernelIdeal.sig) → Buf (Elt Ideal) ℓ)
    (h : Cert.Pre_KernelIdeal_finite_state (hPre_finite_state := Cert.Pre_finite_state.Gen.facts) m)
    (c : Dev Cert.KernelIdeal.nD) : (Cert.KernelIdeal.Gru.args m c).Finite := by
  obtain ⟨h1, h2, h3⟩ := h c
  refine ⟨fun j => ?_, fun j k => ?_, fun j => ?_⟩
  · have e := congrFun h1 (ix1 j)
    pointwise [Cert.Pre_finite_state.fn] at e
    exact isReal_of_cmp e
  · have e := congrFun h2 (ix2 j k)
    pointwise [Cert.Pre_finite_state.fn] at e
    exact isReal_of_cmp e
  · have e := congrFun h3 (ix1 j)
    pointwise [Cert.Pre_finite_state.fn] at e
    exact isReal_of_cmp e

/-- The kernel, over ideal numbers, ends with the problem's result in its result array and its arguments unchanged. -/
theorem kernel_value (m : (ℓ : Loc Cert.KernelIdeal.nD Cert.KernelIdeal.τ Cert.KernelIdeal.sig) → Buf (Elt Ideal) ℓ)
    (g : Dev Cert.KernelIdeal.nD → PrngReg) (ha : ∀ c, (Cert.KernelIdeal.Gru.args m c).Finite) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v17) = Cert.Gru.result (Cert.KernelIdeal.Gru.args m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) := by
  run_from (Cert.KernelIdeal.Gru.run_main (F := Ideal) m g)
  exact Cert.KernelIdeal.Gru.final (ha c)

/-- The kernel and the reference, over ideal numbers, end with the same result. -/
theorem algebraic : Cert.algebraic_KernelIdeal_ReferenceIdeal_pre_finite_state
    (hKernelIdeal := Cert.KernelIdeal.Gen.facts) (hReferenceIdeal := Cert.ReferenceIdeal.Gen.facts)
    (hPre_finite_state := Cert.Pre_finite_state.Gen.facts) := fun m g m' g' hpre hagree => by
  have e : ∀ c, Cert.ReferenceIdeal.Gru.args m' c = Cert.KernelIdeal.Gru.args m c := fun c => by
    obtain ⟨h0, h1, h2, h3, h4, h5, h6, h7⟩ := hagree c
    unfold Cert.ReferenceIdeal.Gru.args Cert.KernelIdeal.Gru.args
    congr 1
  exact ⟨fun c => Cert.Gru.result (Cert.KernelIdeal.Gru.args m c), kernel_value m g (finite_of_pre m hpre),
    (θ_run Cert.ReferenceIdeal.defs _ _).mono
      (fun r h c => ⟨(h c).1.trans (congrArg Cert.Gru.result (e c)), (h c).2⟩)
      (Cert.ReferenceIdeal.Gru.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import proofs.«01_k».proof.Proof.Gen.Pre_finite_state
public import Idealize.ShloMosaic.Adequacy
public import Idealize.ShloMosaic.Init

@[expose] public section

noncomputable section

namespace Cert.Proof

open Idealize.ShloMosaic Idealize.SL.Sem Cert.Kernel

/-- Every claim: the three frames (with and without the precondition, which they do not need), the kernel and its
    idealized printing being one program, and the equality of the kernel's and the reference's results. -/
theorem claim : Cert.Claim := ⟨Cert.Kernel.Gen.facts, Cert.KernelIdeal.Gen.facts, Cert.ReferenceIdeal.Gen.facts, Cert.Pre_finite_state.Gen.facts,
  frame_kernel, frame_ideal, fun m ρ _ => frame_ideal m ρ trivial, frame_reference, fun m ρ _ => frame_reference m ρ trivial,
  trivial, algebraic⟩

end Cert.Proof

end
